-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_vocabulary [hPre_in_vocabulary : Cert.Pre_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocabulary [hPre_in_vocabulary : Cert.Pre_in_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_in_vocabulary [hKernelIdeal : Cert.KernelIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_vocabulary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_vocabulary [hReferenceIdeal : Cert.ReferenceIdeal.Facts] [hPre_in_vocabulary : Cert.Pre_in_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocabulary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_in_vocabulary [hKernelIdeal : Cert.KernelIdeal.Facts] [hReferenceIdeal : Cert.ReferenceIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_vocabulary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_vocabulary : Cert.Pre_in_vocabulary.Facts),
    quiescent_Kernel (hKernel := hKernel)
    ∧ quiescent_KernelIdeal (hKernelIdeal := hKernelIdeal)
    ∧ quiescent_KernelIdeal_pre_in_vocabulary (hKernelIdeal := hKernelIdeal) (hPre_in_vocabulary := hPre_in_vocabulary)
    ∧ quiescent_ReferenceIdeal (hReferenceIdeal := hReferenceIdeal)
    ∧ quiescent_ReferenceIdeal_pre_in_vocabulary (hReferenceIdeal := hReferenceIdeal) (hPre_in_vocabulary := hPre_in_vocabulary)
    ∧ preserves_Kernel_KernelIdeal
    ∧ algebraic_KernelIdeal_ReferenceIdeal_pre_in_vocabulary (hKernelIdeal := hKernelIdeal) (hReferenceIdeal := hReferenceIdeal) (hPre_in_vocabulary := hPre_in_vocabulary)
-- ==== Pre_in_vocabulary.lean ====
abbrev S16384x4 : Shape := ⟨2, ![16384, 4]⟩
abbrev S100x128 : Shape := ⟨2, ![100, 128]⟩
abbrev S512x256 : Shape := ⟨2, ![512, 256]⟩
abbrev S512 : Shape := ⟨1, ![512]⟩
abbrev S256x512 : Shape := ⟨2, ![256, 512]⟩
abbrev S256 : Shape := ⟨1, ![256]⟩
abbrev S16384x2 : Shape := ⟨2, ![16384, 2]⟩
abbrev S_ : Shape := ⟨0, ![]⟩

class Facts : Prop where
  slices_S16384x4_S16384x2_0_2 : S16384x4.Slices ![0, 2] S16384x2
  bcast_S_S16384x2 : S_.BroadcastsInDim S16384x2 (![] : Fin 0 → Fin S16384x2.rank)
  reducesTo_S16384x2_S_d0_1 : S16384x2.ReducesTo [0, 1] S_
  h_S_ : 0 < S_.numel

variable [Facts]

def fn {F : FTy → Type} [FloatOps F] (main_arg0 : IVec S16384x4 32) (main_arg1 : FVec F S100x128 .f32) (main_arg2 : FVec F S100x128 .f32) (main_arg3 : FVec F S512x256 .f32) (main_arg4 : FVec F S512 .f32) (main_arg5 : FVec F S256x512 .f32) (main_arg6 : FVec F S256 .f32) : IVec S_ 1 :=
  let main_v0 : IVec S16384x2 32 := (extractStridedSlice S16384x2 ![0, 2] · slices_S16384x4_S16384x2_0_2) main_arg0
  let main_c : IVec S_ 32 := constantI S_ 32 0#32
  let main_v1 : IVec S16384x2 32 := broadcastInDim S16384x2 ![] bcast_S_S16384x2 main_c
  let main_v2 : IVec S16384x2 1 := cmpi .sge main_v0 main_v1
  let main_c_0 : IVec S_ 32 := constantI S_ 32 100#32
  let main_v3 : IVec S16384x2 32 := broadcastInDim S16384x2 ![] bcast_S_S16384x2 main_c_0
  let main_v4 : IVec S16384x2 1 := cmpi .slt main_v0 main_v3
  let main_v5 : IVec S16384x2 1 := andi main_v2 main_v4
  let main_c_1 : IVec S_ 1 := constantI S_ 1 1#1
  let main_v6 : IVec S_ 1 := (fun x v => Host.reduce IntOp.andi x v reducesTo_S16384x2_S_d0_1 h_S_) main_v5 main_c_1
  main_v6
-- ==== Kernel.lean ====
abbrev S16384x4 : Shape := ⟨2, ![16384, 4]⟩
abbrev S100x128 : Shape := ⟨2, ![100, 128]⟩
abbrev S512x256 : Shape := ⟨2, ![512, 256]⟩
abbrev S512 : Shape := ⟨1, ![512]⟩
abbrev S256x512 : Shape := ⟨2, ![256, 512]⟩
abbrev S256 : Shape := ⟨1, ![256]⟩
abbrev S1x512 : Shape := ⟨2, ![1, 512]⟩
abbrev S1x256 : Shape := ⟨2, ![1, 256]⟩
abbrev S16384x256 : Shape := ⟨2, ![16384, 256]⟩
abbrev S4096x4 : Shape := ⟨2, ![4096, 4]⟩
abbrev S4096x256 : Shape := ⟨2, ![4096, 256]⟩
abbrev S8x128 : Shape := ⟨2, ![8, 128]⟩
abbrev S512x128 : Shape := ⟨2, ![512, 128]⟩
abbrev S100x512 : Shape := ⟨2, ![100, 512]⟩
abbrev S28x512 : Shape := ⟨2, ![28, 512]⟩
abbrev S128x512 : Shape := ⟨2, ![128, 512]⟩
abbrev S4096x1 : Shape := ⟨2, ![4096, 1]⟩
abbrev S1x128 : Shape := ⟨2, ![1, 128]⟩
abbrev S4096x128 : Shape := ⟨2, ![4096, 128]⟩
abbrev S4096x512 : Shape := ⟨2, ![4096, 512]⟩

abbrev nBuf : Space → Nat
  | .hbm => 10
  | .vmem => 14
  | .smem => 0
  | _ => 0

abbrev bufTy : (tb : Table) → Fin (tcTables nBuf tb) → BufTy
  | .hbm, ⟨0, _⟩ => ⟨S16384x4, .i32⟩
  | .hbm, ⟨1, _⟩ => ⟨S100x128, .f32⟩
  | .hbm, ⟨2, _⟩ => ⟨S100x128, .f32⟩
  | .hbm, ⟨3, _⟩ => ⟨S512x256, .f32⟩
  | .hbm, ⟨4, _⟩ => ⟨S512, .f32⟩
  | .hbm, ⟨5, _⟩ => ⟨S256x512, .f32⟩
  | .hbm, ⟨6, _⟩ => ⟨S256, .f32⟩
  | .hbm, ⟨7, _⟩ => ⟨S1x512, .f32⟩
  | .hbm, ⟨8, _⟩ => ⟨S1x256, .f32⟩
  | .hbm, ⟨9, _⟩ => ⟨S16384x256, .f32⟩
  | .local _ .vmem, ⟨0, _⟩ => ⟨S4096x4, .i32⟩
  | .local _ .vmem, ⟨1, _⟩ => ⟨S4096x4, .i32⟩
  | .local _ .vmem, ⟨2, _⟩ => ⟨S100x128, .f32⟩
  | .local _ .vmem, ⟨3, _⟩ => ⟨S100x128, .f32⟩
  | .local _ .vmem, ⟨4, _⟩ => ⟨S512x256, .f32⟩
  | .local _ .vmem, ⟨5, _⟩ => ⟨S1x512, .f32⟩
  | .local _ .vmem, ⟨6, _⟩ => ⟨S256x512, .f32⟩
  | .local _ .vmem, ⟨7, _⟩ => ⟨S1x256, .f32⟩
  | .local _ .vmem, ⟨8, _⟩ => ⟨S4096x256, .f32⟩
  | .local _ .vmem, ⟨9, _⟩ => ⟨S4096x256, .f32⟩
  | .local _ .vmem, ⟨10, _⟩ => ⟨S256x512, .bf16⟩
  | .local _ .vmem, ⟨11, _⟩ => ⟨S512x256, .bf16⟩
  | .local _ .vmem, ⟨12, _⟩ => ⟨S1x512, .bf16⟩
  | .local _ .vmem, ⟨13, _⟩ => ⟨S8x128, .bf16⟩
  | _, _ => ⟨S16384x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x4 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S100x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S16384x4 : Shape := ⟨2, ![16384, 4]⟩
abbrev S100x128 : Shape := ⟨2, ![100, 128]⟩
abbrev S512x256 : Shape := ⟨2, ![512, 256]⟩
abbrev S512 : Shape := ⟨1, ![512]⟩
abbrev S256x512 : Shape := ⟨2, ![256, 512]⟩
abbrev S256 : Shape := ⟨1, ![256]⟩
abbrev S16384x1 : Shape := ⟨2, ![16384, 1]⟩
abbrev S16384 : Shape := ⟨1, ![16384]⟩
abbrev S_ : Shape := ⟨0, ![]⟩
abbrev S1 : Shape := ⟨1, ![1]⟩
abbrev S1x1 : Shape := ⟨2, ![1, 1]⟩
abbrev S16384x128 : Shape := ⟨2, ![16384, 128]⟩
abbrev S16384x256 : Shape := ⟨2, ![16384, 256]⟩
abbrev S16384x512 : Shape := ⟨2, ![16384, 512]⟩
abbrev S1x512 : Shape := ⟨2, ![1, 512]⟩
abbrev S1x256 : Shape := ⟨2, ![1, 256]⟩

abbrev nBuf : Space → Nat
  | .hbm => 71
  | .vmem => 0
  | .smem => 0
  | _ => 0

abbrev bufTy : (tb : Table) → Fin (tcTables nBuf tb) → BufTy
  | .hbm, ⟨0, _⟩ => ⟨S16384x4, .i32⟩
  | .hbm, ⟨1, _⟩ => ⟨S100x128, .f32⟩
  | .hbm, ⟨2, _⟩ => ⟨S100x128, .f32⟩
  | .hbm, ⟨3, _⟩ => ⟨S512x256, .f32⟩
  | .hbm, ⟨4, _⟩ => ⟨S512, .f32⟩
  | .hbm, ⟨5, _⟩ => ⟨S256x512, .f32⟩
  | .hbm, ⟨6, _⟩ => ⟨S256, .f32⟩
  | .hbm, ⟨7, _⟩ => ⟨S16384x1, .i32⟩
  | .hbm, ⟨8, _⟩ => ⟨S16384, .i32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S16384x1, .i32⟩
  | .hbm, ⟨17, _⟩ => ⟨S1, .i32⟩
  | .hbm, ⟨18, _⟩ => ⟨S_, .i32⟩
  | .hbm, ⟨19, _⟩ => ⟨S16384x1, .i32⟩
  | .hbm, ⟨20, _⟩ => ⟨S16384x1, .i1⟩
  | .hbm, ⟨21, _⟩ => ⟨S1x1, .i32⟩
  | .hbm, ⟨22, _⟩ => ⟨S16384x1, .i32⟩
  | .hbm, ⟨23, _⟩ => ⟨S16384x1, .i1⟩
  | .hbm, ⟨24, _⟩ => ⟨S16384x1, .i1⟩
  | .hbm, ⟨25, _⟩ => ⟨S_, .i1⟩
  | .hbm, ⟨26, _⟩ => ⟨S16384, .i1⟩
  | .hbm, ⟨27, _⟩ => ⟨S16384x128, .f32⟩
  | .hbm, ⟨28, _⟩ => ⟨S16384x128, .i1⟩
  | .hbm, ⟨29, _⟩ => ⟨S_, .f32⟩
  | .hbm, ⟨30, _⟩ => ⟨S16384x128, .f32⟩
  | .hbm, ⟨31, _⟩ => ⟨S16384x128, .f32⟩
  | .hbm, ⟨32, _⟩ => ⟨S16384x1, .i32⟩
  | .hbm, ⟨33, _⟩ => ⟨S16384, .i32⟩
  | .hbm, ⟨34, _⟩ => ⟨S_, .i32⟩
  | .hbm, ⟨35, _⟩ => ⟨S16384, .i32⟩
  | .hbm, ⟨36, _⟩ => ⟨S16384, .i1⟩
  | .hbm, ⟨37, _⟩ => ⟨S_, .i32⟩
  | .hbm, ⟨38, _⟩ => ⟨S16384, .i32⟩
  | .hbm, ⟨39, _⟩ => ⟨S16384, .i32⟩
  | .hbm, ⟨40, _⟩ => ⟨S16384, .i32⟩
  | .hbm, ⟨41, _⟩ => ⟨S16384x1, .i32⟩
  | .hbm, ⟨42, _⟩ => ⟨S1, .i32⟩
  | .hbm, ⟨43, _⟩ => ⟨S_, .i32⟩
  | .hbm, ⟨44, _⟩ => ⟨S16384x1, .i32⟩
  | .hbm, ⟨45, _⟩ => ⟨S16384x1, .i1⟩
  | .hbm, ⟨46, _⟩ => ⟨S1x1, .i32⟩
  | .hbm, ⟨47, _⟩ => ⟨S16384x1, .i32⟩
  | .hbm, ⟨48, _⟩ => ⟨S16384x1, .i1⟩
  | .hbm, ⟨49, _⟩ => ⟨S16384x1, .i1⟩
  | .hbm, ⟨50, _⟩ => ⟨S_, .i1⟩
  | .hbm, ⟨51, _⟩ => ⟨S16384, .i1⟩
  | .hbm, ⟨52, _⟩ => ⟨S16384x128, .f32⟩
  | .hbm, ⟨53, _⟩ => ⟨S16384x128, .i1⟩
  | .hbm, ⟨54, _⟩ => ⟨S_, .f32⟩
  | .hbm, ⟨55, _⟩ => ⟨S16384x128, .f32⟩
  | .hbm, ⟨56, _⟩ => ⟨S16384x128, .f32⟩
  | .hbm, ⟨57, _⟩ => ⟨S16384x256, .f32⟩
  | .hbm, ⟨58, _⟩ => ⟨S256x512, .f32⟩
  | .hbm, ⟨59, _⟩ => ⟨S16384x512, .f32⟩
  | .hbm, ⟨60, _⟩ => ⟨S1x512, .f32⟩
  | .hbm, ⟨61, _⟩ => ⟨S16384x512, .f32⟩
  | .hbm, ⟨62, _⟩ => ⟨S16384x512, .f32⟩
  | .hbm, ⟨63, _⟩ => ⟨S_, .f32⟩
  | .hbm, ⟨64, _⟩ => ⟨S16384x512, .f32⟩
  | .hbm, ⟨65, _⟩ => ⟨S16384x512, .f32⟩
  | .hbm, ⟨66, _⟩ => ⟨S512x256, .f32⟩
  | .hbm, ⟨67, _⟩ => ⟨S16384x256, .f32⟩
  | .hbm, ⟨68, _⟩ => ⟨S1x256, .f32⟩
  | .hbm, ⟨69, _⟩ => ⟨S16384x256, .f32⟩
  | .hbm, ⟨70, _⟩ => ⟨S16384x256, .f32⟩
  | _, _ => ⟨S16384x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_cst : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩

abbrev nD : Nat := 1
abbrev τ : Topo := Topo.v7x

variable {F : FTy → Type} [FloatOps F]
-- ==== Proof.Formula.lean ====
/- The mathematics both programs compute, on the extended reals, and what an index in the vocabulary is. -/
module

public import Idealize.ShloMosaic.Lib.Pointwise
public import Idealize.ShloMosaic.Lib.WordCmp

@[expose] public section

noncomputable section

namespace Cert.Formula

open Idealize.ShloMosaic

/-- A word that names a row of a table of 100 rows: read as a natural number it is below 100. -/
def InRange (w : BitVec 32) : Prop := w.toNat < 100

/-- The row that a word in range names. -/
def row (w : BitVec 32) (h : InRange w) : Fin 100 := ⟨w.toNat, h⟩

/-- Equal words name equal rows. -/
theorem row_congr {w w' : BitVec 32} (e : w = w') (h : InRange w) (h' : InRange w') : row w h = row w' h' := by
  subst e
  rfl

/-- Hidden unit `j` before the bias: row `p` of the first table against the first 128 columns of `W1`'s row `j`, and
    row `q` of the second table against the last 128. -/
def lookup (meter unit : Vec Ideal ⟨2, ![100, 128]⟩ .f32) (W1 : Vec Ideal ⟨2, ![512, 256]⟩ .f32) (p q : Fin 100) (j : Fin 512) : EReal :=
  (∑ k : Fin 128, meter (ix2 p k) * W1 (ix2 j (⟨k.val, by omega⟩ : Fin 256)))
    + ∑ k : Fin 128, unit (ix2 q k) * W1 (ix2 j (⟨128 + k.val, by omega⟩ : Fin 256))

/-- Output unit `o` for the row pair `(p, q)`: the rectified hidden layer against `W2`'s row `o`, and the bias. -/
def answer (meter unit : Vec Ideal ⟨2, ![100, 128]⟩ .f32) (W1 : Vec Ideal ⟨2, ![512, 256]⟩ .f32) (b1 : Vec Ideal ⟨1, ![512]⟩ .f32)
    (W2 : Vec Ideal ⟨2, ![256, 512]⟩ .f32) (b2 : Vec Ideal ⟨1, ![256]⟩ .f32) (p q : Fin 100) (o : Fin 256) : EReal :=
  (∑ j : Fin 512, max (lookup meter unit W1 p q j + b1 (ix1 j)) 0 * W2 (ix2 o j)) + b2 (ix1 o)

/-- The two signed comparisons that the vocabulary's range is stated by, read on naturals. -/
theorem inRange_of_cmpi (w : BitVec 32)
    (h : IntOp.andi (IntOp.cmpi .sge w 0#32) (IntOp.cmpi .slt w 100#32) = 1#1) : InRange w := by
  have e := WordCmp.andi_sge_zero_slt_ofNat (w := 32) (k := 100) (by decide) w
  rw [e] at h
  by_contra hn
  rw [decide_eq_false (show ¬w.toNat < 100 from hn)] at h
  exact absurd h (by decide)

/-- An index in range, read as a signed integer, is its natural. -/
theorem toInt_of_inRange (w : BitVec 32) (h : InRange w) : w.toInt = (w.toNat : ℤ) :=
  WordCmp.toInt_eq_toNat_of_lt_half (by have : w.toNat < 100 := h; omega)

/-- A row of 128 numbers that is 1 where the lane's number is the index and 0 elsewhere, against a column of 128 values,
    picks the value at the index. -/
theorem sum_pick (w : BitVec 32) (h : InRange w) (f : Fin 128 → EReal) :
    (∑ k : Fin 128, (if ((((BitVec.ofNat 32 k.val).toInt : ℤ) : ℝ) : EReal) = (((w.toInt : ℤ) : ℝ) : EReal) then (1 : EReal) else 0) * f k)
      = f ⟨w.toNat, lt_trans h (by decide)⟩ := by
  rw [Finset.sum_eq_single (⟨w.toNat, lt_trans h (by decide)⟩ : Fin 128)]
  · rw [if_pos, one_mul]
    simp only [BitVec.ofNat_toNat, BitVec.setWidth_eq]
  · intro k _ hk
    rw [if_neg, zero_mul]
    intro e
    have e' : (BitVec.ofNat 32 k.val).toInt = w.toInt := by exact_mod_cast e
    rw [toInt_of_inRange w h, WordCmp.toInt_ofNat_of_lt (by have := k.isLt; omega)] at e'
    exact hk (Fin.ext (by exact_mod_cast e'))
  · exact fun hn => absurd (Finset.mem_univ _) hn

end Cert.Formula

end
-- ==== Proof.Range.lean ====
/- The precondition, element by element: the two columns of indices that are read hold rows of the tables. -/
module

public import proofs.«01_k».proof.Proof.Gen.Pre_in_vocabulary
public import proofs.«01_k».proof.Proof.Formula
public import Idealize.ShloMosaic.Lib.ReduceAll

@[expose] public section

noncomputable section

namespace Cert.Range

open Idealize.ShloMosaic Cert.Pre_in_vocabulary

/-- The result of the precondition has one index. -/
instance : Subsingleton S_.Idx := ⟨fun _ _ => funext fun a => a.elim0⟩

variable (ids : IVec S16384x4 32) (meter unit : FVec Ideal S100x128 .f32) (W1 : FVec Ideal S512x256 .f32)
  (b1 : FVec Ideal S512 .f32) (W2 : FVec Ideal S256x512 .f32) (b2 : FVec Ideal S256 .f32)

/-- Where the precondition holds, entry `n` of the read column `k` (0 for the first of the two, 1 for the second) is in range. -/
theorem inRange (h : fn ids meter unit W1 b1 W2 b2 = fun _ => 1#1) (n : Fin 16384) (k : Fin 2) :
    Formula.InRange (ids (ix2 n (⟨2 + k.val, by omega⟩ : Fin 4))) := by
  have e := congrFun h ix0
  dsimp only [fn] at e
  have e' := Host.reduce_andi_all _ _ _ _ _ e (ix2 n k)
  pointwise at e'
  exact Formula.inRange_of_cmpi _ e'

end Cert.Range

end
-- ==== Proof.Block.lean ====
/- What one point of the grid does, as plain functions of the blocks it stages: what the first point leaves in the four
   scratch arrays, that the later points leave them alone, and what every point stores in its output block. -/
module

public import proofs.«01_k».proof.Proof.Gen.KernelIdeal.Value
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.KernelIdeal.Block

open Idealize.ShloMosaic Cert.KernelIdeal Cert.KernelIdeal.Gen

variable {F : FTy → Type} [FloatOps F]

/-- The four arrays that the first point prepares: the two tables multiplied into `W1`'s halves, `W2` transposed, the
    first bias, and the lane numbers. -/
abbrev Scratch (F : FTy → Type) : Type := Vec F S256x512 .bf16 × Vec F S512x256 .bf16 × Vec F S1x512 .bf16 × Vec F S8x128 .bf16

/-- The preparation, as a function of the blocks that hold the tables, `W1`, the first bias and `W2`. -/
def prepare (meter unit : Vec F S100x128 .f32) (W1 : Vec F S512x256 .f32) (b1 : Vec F S1x512 .f32) (W2 : Vec F S256x512 .f32) : Scratch F :=
  (k0_pay1 meter (View.ld W1 (Rect.unit (s := S512x256) ![0, 0] S512x128.size inb_S512x256_S512x128_0_0))
      unit (View.ld W1 (Rect.unit (s := S512x256) ![0, 128] S512x128.size inb_S512x256_S512x128_0_128)),
    k0_pay2 W2, k0_pay3 b1, k0_pay5 k0_pay4)

/-- The output block, as a function of the block of indices, the prepared arrays and the block of the second bias. -/
def compute (ids : Vec F S4096x4 .i32) (s : Scratch F) (b2 : Vec F S1x256 .f32) : Vec F S4096x256 .f32 :=
  k0_pay6 (View.ld ids (Rect.unit (s := S4096x4) ![0, 2] S4096x1.size inb_S4096x4_S4096x1_0_2))
    (View.ld ids (Rect.unit (s := S4096x4) ![0, 3] S4096x1.size inb_S4096x4_S4096x1_0_3))
    (View.ld s.2.2.2 (Rect.unit (s := S8x128) ![0, 0] S1x128.size inb_S8x128_S1x128_0_0)) s.1 s.2.2.1 s.2.1 b2

variable (m : (ℓ : Loc nD τ sig) → Buf (Elt F) ℓ) (c : Dev nD)

/-- What the preparation makes of the blocks staged at point `t`. -/
def prepared (t : Fin cfg0.N) : Scratch F :=
  prepare (iblk m c 1 t) (iblk m c 2 t) (iblk m c 3 t) (iblk m c 4 t) (iblk m c 5 t)

/-- The first point leaves the prepared arrays in the scratch. -/
theorem scratch_first (t : Fin cfg0.N) (h0 : t.val % 4 = 0) : (outsAt0 m c t.val t.isLt).2 = prepared m c t := by
  rw [outsAt0_A m c t h0]
  frame_out
  rfl

/-- A later point leaves the scratch as the point before left it. -/
theorem scratch_later (t : Fin cfg0.N) (h0 : ¬t.val % 4 = 0) :
    (outsAt0 m c t.val t.isLt).2 = (outsAt0 m c (t.val - 1) (Nat.lt_of_le_of_lt (Nat.sub_le _ _) t.isLt)).2 := by
  rw [outsAt0_B m c t h0]
  rfl

/-- So after every point the scratch holds what the first point prepared. -/
theorem scratch_held (t : Fin cfg0.N) : (outsAt0 m c t.val t.isLt).2 = prepared m c ⟨0, by rw [show cfg0.N = 4 from N_0]; decide⟩ := by
  rw [Pipeline.eq_of_write_hold (fun n h => (outsAt0 m c n h).2) 4 (prepared m c) (scratch_first m c) (scratch_later m c) t]
  have hN : cfg0.N = 4 := N_0
  have ht := t.isLt
  exact congrArg (prepared m c) (Fin.ext (by show 4 * (t.val / 4) = 0; omega))

/-- Every point computes its output block from its indices and the scratch as it stands when the point is done. -/
theorem out_eq (t : Fin cfg0.N) :
    (outsAt0 m c t.val t.isLt).1 = compute (iblk m c 0 t) (outsAt0 m c t.val t.isLt).2 (iblk m c 6 t) := by
  by_cases h0 : t.val % 4 = 0
  · rw [scratch_first m c t h0, outsAt0_A m c t h0]
    frame_open
    simp (disch := decide) only [View.readCov_fill]
    frame_out
    rfl
  · rw [scratch_later m c t h0]
    conv_lhs => rw [outsAt0_B m c t h0]
    frame_out
    simp only [read_unread_whole]
    rfl

end Cert.KernelIdeal.Block

end
-- ==== Proof.Point.lean ====
/- The two payloads of the kernel read at an index on the extended reals: a row of the prepared table, and an entry of an
   output block for indices in range. -/
module

public import proofs.«01_k».proof.Proof.Block
public import proofs.«01_k».proof.Proof.Formula

@[expose] public section

set_option maxRecDepth 16384

noncomputable section

namespace Cert.KernelIdeal.Point

open Idealize.ShloMosaic Cert.KernelIdeal Cert.KernelIdeal.Gen Cert.KernelIdeal.Block Cert.Formula

variable (meter unit : Vec Ideal S100x128 .f32) (W1 : Vec Ideal S512x256 .f32) (b1 : Vec Ideal S1x512 .f32)
  (W2 : Vec Ideal S256x512 .f32) (b2 : Vec Ideal S1x256 .f32)

/-- Rows 0 to 99 of the prepared table: the first table's rows against the first half of `W1`. -/
theorem table_low (p : Fin 100) (j : Fin 512) :
    (prepare meter unit W1 b1 W2).1 (ix2 (⟨p.val, by omega⟩ : Fin 256) j)
      = ∑ k : Fin 128, meter (ix2 p k) * W1 (ix2 j (⟨k.val, by omega⟩ : Fin 256)) := by
  have h1 : p.val < 128 := by omega
  pointwise [prepare, k0_pay1]
  exact dif_pos h1

/-- Rows 128 to 227 of the prepared table: the second table's rows against the second half of `W1`. -/
theorem table_high (q : Fin 100) (j : Fin 512) :
    (prepare meter unit W1 b1 W2).1 (ix2 (⟨128 + q.val, by omega⟩ : Fin 256) j)
      = ∑ k : Fin 128, unit (ix2 q k) * W1 (ix2 j (⟨128 + k.val, by omega⟩ : Fin 256)) := by
  pointwise [prepare, k0_pay1]

/-- Entry `(r, o)` of the output block that the prepared arrays give, for a row `r` whose two indices are in range. -/
theorem compute_apply (ids : Vec Ideal S4096x4 .i32) (r : Fin 4096) (o : Fin 256)
    (hp : InRange (ids (ix2 r (2 : Fin 4)))) (hq : InRange (ids (ix2 r (3 : Fin 4)))) :
    compute ids (prepare meter unit W1 b1 W2) b2 (ix2 r o)
      = answer meter unit W1 (fun j => b1 (ix2 0 (j 0))) W2 (fun o => b2 (ix2 0 (o 0))) (row _ hp) (row _ hq) o := by
  unfold compute answer
  have hl := table_low meter unit W1 b1 W2 (row _ hp)
  have hh := table_high meter unit W1 b1 W2 (row _ hq)
  generalize htab : (prepare meter unit W1 b1 W2).1 = tab at hl hh ⊢
  pointwise [prepare, k0_pay6, k0_pay2, k0_pay3, k0_pay4, k0_pay5]
  refine congrArg (· + b2 (ix2 0 o)) (Finset.sum_congr rfl fun j _ => ?_)
  have A := (sum_pick _ hp fun k : Fin 128 => tab (ix2 (⟨k.val, by omega⟩ : Fin 256) j)).trans (hl j)
  have B := (sum_pick _ hq fun k : Fin 128 => tab (ix2 (⟨128 + k.val, by omega⟩ : Fin 256) j)).trans (hh j)
  exact congrArg (fun e : EReal => max (e + b1 (ix2 0 j)) 0 * W2 (ix2 o j)) (congrArg₂ (· + ·) A B)

end Cert.KernelIdeal.Point

end
-- ==== Proof.Array.lean ====
/- What the kernel's result array holds after the run: row `n` is the formula at the two indices of row `n`. -/
module

public import proofs.«01_k».proof.Proof.Point

@[expose] public section

set_option maxRecDepth 16384

noncomputable section

namespace Cert.KernelIdeal.Array

open Idealize.ShloMosaic Cert.KernelIdeal Cert.KernelIdeal.Gen Cert.KernelIdeal.Block Cert.Formula

variable (m : (ℓ : Loc nD τ sig) → Buf (Elt Ideal) ℓ) (c : Dev nD)

/-- Where each window's block lies at point `t`: the indices move by one block of rows, everything else stays. -/
theorem index_facts : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- The block of indices at point `t`: 4096 rows of the index array from row `4096 t` on. -/
theorem ids_apply (t : Fin cfg0.N) (r : Fin 4096) (k : Fin 4) (n : Fin 16384) (hn : n.val = 4096 * t.val + r.val) :
    (iblk m c 0 t : Vec Ideal S4096x4 .i32) (ix2 r k) = m ((c.tc : Thread nD τ).loc main_arg0) (ix2 n k) := by
  obtain ⟨e, _⟩ := index_facts t
  blk_ext [iblk, V_main_arg0, e]

/-- The first table's block is the table. -/
theorem meter_eq (t : Fin cfg0.N) : (iblk m c 1 t : Vec Ideal S100x128 .f32) = m ((c.tc : Thread nD τ).loc main_arg1) := by
  have e := index_facts t
  funext i
  blk_ext [iblk, V_main_arg1, e]

/-- The second table's block is the table. -/
theorem unit_eq (t : Fin cfg0.N) : (iblk m c 2 t : Vec Ideal S100x128 .f32) = m ((c.tc : Thread nD τ).loc main_arg2) := by
  have e := index_facts t
  funext i
  blk_ext [iblk, V_main_arg2, e]

/-- `W1`'s block is `W1`. -/
theorem W1_eq (t : Fin cfg0.N) : (iblk m c 3 t : Vec Ideal S512x256 .f32) = m ((c.tc : Thread nD τ).loc main_arg3) := by
  have e := index_facts t
  funext i
  blk_ext [iblk, V_main_arg3, e]

/-- `W2`'s block is `W2`. -/
theorem W2_eq (t : Fin cfg0.N) : (iblk m c 5 t : Vec Ideal S256x512 .f32) = m ((c.tc : Thread nD τ).loc main_arg5) := by
  have e := index_facts t
  funext i
  blk_ext [iblk, V_main_arg5, e]

/-- The first bias's block holds the bias as one row. -/
theorem b1_apply (t : Fin cfg0.N) (j : Fin 512) :
    (iblk m c 4 t : Vec Ideal S1x512 .f32) (ix2 0 j) = m ((c.tc : Thread nD τ).loc main_arg4) (ix1 j) := by
  have e := index_facts t
  blk_ext! [iblk, V, e]

/-- The second bias's block holds the bias as one row. -/
theorem b2_apply (t : Fin cfg0.N) (j : Fin 256) :
    (iblk m c 6 t : Vec Ideal S1x256 .f32) (ix2 0 j) = m ((c.tc : Thread nD τ).loc main_arg6) (ix1 j) := by
  have e := index_facts t
  blk_ext! [iblk, V, e]

/-- The first bias's row, read as a vector, is the bias. -/
theorem b1_eq (t : Fin cfg0.N) :
    (fun j : S512.Idx => (iblk m c 4 t : Vec Ideal S1x512 .f32) (ix2 0 (j 0))) = m ((c.tc : Thread nD τ).loc main_arg4) :=
  funext fun j => (b1_apply m c t (j 0)).trans (congrArg _ (eq_ix1 j).symm)

/-- The second bias's row, read as a vector, is the bias. -/
theorem b2_eq (t : Fin cfg0.N) :
    (fun j : S256.Idx => (iblk m c 6 t : Vec Ideal S1x256 .f32) (ix2 0 (j 0))) = m ((c.tc : Thread nD τ).loc main_arg6) :=
  funext fun j => (b2_apply m c t (j 0)).trans (congrArg _ (eq_ix1 j).symm)

/-- Entry `(n, o)` of the result array: the formula at row `n`'s two indices, where they are in range. -/
theorem result_apply (n : Fin 16384) (o : Fin 256)
    (hp : InRange (m ((c.tc : Thread nD τ).loc main_arg0) (ix2 n (2 : Fin 4))))
    (hq : InRange (m ((c.tc : Thread nD τ).loc main_arg0) (ix2 n (3 : Fin 4)))) :
    Value.G7 m c (ix2 n o)
      = answer (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
          (row _ hp) (row _ hq) o := by
  have hN : cfg0.N = 4 := N_0
  -- the point that writes row `n`, and the row's place in its block
  have ht : Value.pt7Of (ix2 n o) = n.val / 4096 := by
    show 1 * (n.val / 4096 - 0) + 1 * (o.val / 256 - 0) = _
    omega
  have hlt : n.val / 4096 < cfg0.N := by omega
  have hloc : Value.loc7Of (ix2 n o) = ix2 (⟨n.val % 4096, by omega⟩ : Fin 4096) o := by
    funext a
    fin_cases a
    · rfl
    · exact Fin.ext (show o.val % 256 = o.val by omega)
  have hG : Value.G7 m c (ix2 n o) = (outsAt0 m c (n.val / 4096) hlt).1 (ix2 (⟨n.val % 4096, by omega⟩ : Fin 4096) o) := by
    rw [Value.outsAt0_sweep, ← hloc]
    unfold Value.G7
    simp only [ht]
    exact dif_pos hlt
  have hn : n.val = 4096 * (n.val / 4096) + n.val % 4096 := by omega
  have ep := ids_apply m c ⟨n.val / 4096, hlt⟩ ⟨n.val % 4096, by omega⟩ 2 n hn
  have eq' := ids_apply m c ⟨n.val / 4096, hlt⟩ ⟨n.val % 4096, by omega⟩ 3 n hn
  have hp' : InRange ((iblk m c 0 ⟨n.val / 4096, hlt⟩ : Vec Ideal S4096x4 .i32) (ix2 (⟨n.val % 4096, by omega⟩ : Fin 4096) 2)) :=
    Eq.mpr (congrArg InRange ep) hp
  have hq' : InRange ((iblk m c 0 ⟨n.val / 4096, hlt⟩ : Vec Ideal S4096x4 .i32) (ix2 (⟨n.val % 4096, by omega⟩ : Fin 4096) 3)) :=
    Eq.mpr (congrArg InRange eq') hq
  have rp : row _ hp' = row _ hp := row_congr ep hp' hp
  have rq : row _ hq' = row _ hq := row_congr eq' hq' hq
  rw [hG, out_eq m c ⟨n.val / 4096, hlt⟩, scratch_held m c ⟨n.val / 4096, hlt⟩]
  unfold prepared
  refine (Point.compute_apply _ _ _ _ _ _ _ _ o hp' hq').trans ?_
  rw [rp, rq, meter_eq, unit_eq, W1_eq, W2_eq]
  exact congrArg₂ (fun x y => answer _ _ _ x _ y _ _ o) (b1_eq m c _) (b2_eq m c _)

end Cert.KernelIdeal.Array

end
-- ==== Proof.Reference.lean ====
/- What the reference computes, read at an index on the extended reals. -/
module

public import proofs.«01_k».proof.Proof.Gen.ReferenceIdeal.Run
public import proofs.«01_k».proof.Proof.Formula
public import Idealize.ShloMosaic.Lib.Tactic.CleanTypes
public import Idealize.ShloMosaic.Lib.Tactic.WordOmega
public import Idealize.ShloMosaic.Lib.Routing.Ops
public import Idealize.ShloMosaic.Lib.Routing.OpsPair

@[expose] public section

set_option maxRecDepth 16384

noncomputable section

namespace Cert.ReferenceIdeal.Lookup

open Idealize.ShloMosaic Cert.ReferenceIdeal Cert.Formula

/-- The index as the reference wraps it: 100 more where it is negative. -/
def wrapped (w : BitVec 32) : BitVec 32 := Scalar.select (IntOp.cmpi .slt w 0#32) (IntOp.addi w 100#32) w

/-- An index in range is not changed by the wrap. -/
theorem wrapped_eq (w : BitVec 32) (h : InRange w) : wrapped w = w :=
  Routing.wrap_of_lt w _ (by have : w.toNat < 100 := h; omega)

/-- The mask that marks the rows to keep: 1 where the wrapped index is at least 0 and at most 99. -/
def mask (w : BitVec 32) : BitVec 1 :=
  Finset.fold IntOp.andi (1#1)
    (fun _ : Fin 1 => IntOp.andi (IntOp.cmpi .sge (wrapped w) 0#32) (IntOp.cmpi .sle (wrapped w) 99#32)) Finset.univ

/-- The mask is 1 at an index in range. -/
theorem mask_eq (w : BitVec 32) (h : InRange w) : mask w = 1#1 := by
  have h' : w.toNat < 100 := h
  have hlo : IntOp.cmpi .sge w 0#32 = 1#1 := by word_omega
  have hhi : IntOp.cmpi .sle w 99#32 = 1#1 := by word_omega
  unfold mask
  rw [wrapped_eq w h, hlo, hhi]
  rfl

/-- One looked-up row: where the index `w` is in range, the masked lookup gives the table's row `w`, whatever it would
    fill a row out of range with. -/
theorem take_row (table : Vec Ideal S100x128 .f32) (starts : IVec S16384x1 32) (n : Fin 16384) (k : Fin 128)
    (w : BitVec 32) (h : InRange w) (hs : starts (ix2 n 0) = wrapped w) (fill : EReal) :
    Scalar.select (mask w) (Host.gather gather_S100x128_S16384x1_S16384x128_1_0_n_n_0_1_1128 table starts (ix2 n k)) fill
      = table (ix2 (row w h) k) := by
  rw [mask_eq w h]
  refine Eq.trans (if_pos rfl) (Routing.gather_row _ rfl rfl rfl rfl rfl table starts n k (row w h) (Eq.trans hs ?_) (by decide))
  rw [wrapped_eq w h]
  simp [row]

variable (m : (ℓ : Loc nD τ sig) → Buf (Elt Ideal) ℓ) (c : Dev nD)

/-- Entry `(n, o)` of the reference's result, where row `n`'s two indices are in range. -/
theorem result_apply (n : Fin 16384) (o : Fin 256)
    (hp : InRange (m ((c.tc : Thread nD τ).loc main_arg0) (ix2 n (2 : Fin 4))))
    (hq : InRange (m ((c.tc : Thread nD τ).loc main_arg0) (ix2 n (3 : Fin 4)))) :
    Value.res_main_v18 m c (ix2 n o)
      = answer (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
          (row _ hp) (row _ hq) o := by
  unfold Value.res_main_v18 answer
  clean_types
  pointwise
  refine congrArg (· + _) (Finset.sum_congr rfl fun j _ => congrArg (fun e : EReal => max (e + _) 0 * _) ?_)
  refine congrArg₂ (· + ·) (Finset.sum_congr rfl fun k _ => congrArg (· * _) ?_) (Finset.sum_congr rfl fun k _ => congrArg (· * _) ?_)
  · exact take_row _ _ n k _ hp (by pointwise; rfl) _
  · exact take_row _ _ n k _ hq (by pointwise; rfl) _

end Cert.ReferenceIdeal.Lookup

end
-- ==== Proof.Equation.lean ====
/- The equation: from memories that agree on the arguments, and with the read indices in range, the reference's result is
   the array that the kernel leaves. -/
module

public import proofs.«01_k».proof.Proof.Array
public import proofs.«01_k».proof.Proof.Reference

@[expose] public section

noncomputable section

namespace Cert.Equation

open Idealize.ShloMosaic Cert.Formula

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- Both sides are the formula at each row's two indices. -/
theorem result_eq
    (hin : ∀ (n : Fin 16384) (k : Fin 2), InRange (m ((c.tc : Thread Cert.KernelIdeal.nD Cert.KernelIdeal.τ).loc Cert.KernelIdeal.main_arg0) (ix2 n (⟨2 + k.val, by omega⟩ : Fin 4))))
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_main_v18 m' c = Cert.KernelIdeal.Value.G7 m c := by
  funext i
  rw [eq_ix2 i]
  have hp := hin (i 0) 0
  have hq := hin (i 0) 1
  rw [Cert.KernelIdeal.Array.result_apply m c (i 0) (i 1) hp hq,
    Cert.ReferenceIdeal.Lookup.result_apply m' c (i 0) (i 1) (by rw [h0]; exact hp) (by rw [h0]; exact hq), h1, h2, h3, h4, h5, h6]
  congr 1 <;> exact row_congr (congrFun h0 _) _ _

end Cert.Equation

end
-- ==== Proof.lean ====
/- The five claims of this directory, assembled: the frame of the kernel and of its idealization, the frame of the
   reference, that the idealization is the kernel's own program, and that the idealized kernel and the reference end with
   equal results where the two index columns lie in the vocabulary. -/
module

public import proofs.«01_k».proof.Defs
public import proofs.«01_k».proof.Proof.Gen.Kernel.Frame
public import proofs.«01_k».proof.Proof.Gen.KernelIdeal.Value
public import proofs.«01_k».proof.Proof.Gen.Pre_in_vocabulary
public import proofs.«01_k».proof.Proof.Gen.ReferenceIdeal.Run
public import proofs.«01_k».proof.Proof.Range
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference runs to its end, leaves its arguments as they were and holds no semaphore. -/
theorem quiescent_reference : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealized kernel and the reference end with equal results where the indices are in the vocabulary. -/
theorem algebraic : algebraic_KernelIdeal_ReferenceIdeal_pre_in_vocabulary := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨h0, h1, h2, h3, h4, h5, h6⟩ := hagree c
  exact (h c).1.trans (Cert.Equation.result_eq m m' c (Cert.Range.inRange _ _ _ _ _ _ _ (hpre c)) h0 h1 h2 h3 h4 h5 h6)

/-- All the claims. -/
theorem claim : Cert.Claim := ⟨Cert.Kernel.Gen.facts, Cert.KernelIdeal.Gen.facts, Cert.ReferenceIdeal.Gen.facts, Cert.Pre_in_vocabulary.Gen.facts,
  fun m ρ _ => Cert.Kernel.Gen.frame m ρ, fun m ρ _ => Cert.KernelIdeal.Gen.frame m ρ, fun m ρ _ => Cert.KernelIdeal.Gen.frame m ρ,
  quiescent_reference, fun m ρ _ => quiescent_reference m ρ trivial, (trivial : preserves_Kernel_KernelIdeal), algebraic⟩

end Cert.Proof

end
